-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S8192x256 : Shape := ⟨2, ![8192, 256]⟩
abbrev S64x256 : Shape := ⟨2, ![64, 256]⟩
abbrev S1x256 : Shape := ⟨2, ![1, 256]⟩
abbrev S256 : Shape := ⟨1, ![256]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S4096x2 : Shape := ⟨2, ![4096, 2]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .i32⟩
  | .hbm, ⟨3, _⟩ => ⟨S_, .f32⟩
  | .hbm, ⟨4, _⟩ => ⟨S_, .i32⟩
  | .hbm, ⟨5, _⟩ => ⟨S4096, .f32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x1, .i32⟩
  | .hbm, ⟨24, _⟩ => ⟨S4096x2, .i32⟩
  | .hbm, ⟨25, _⟩ => ⟨S4096, .f32⟩
  | .hbm, ⟨26, _⟩ => ⟨S_, .f32⟩
  | .hbm, ⟨27, _⟩ => ⟨S8192x4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1, .i32⟩
  | .hbm, ⟨44, _⟩ => ⟨S4096x2, .i32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Steps.lean ====
module

public import proofs.«01_k».proof.Proof.Gen.KernelIdeal.Value

/-! One block of the kernel, chunk by chunk: the values the loop carries and the values stored, under names. -/

@[expose] public section

noncomputable section

namespace Cert.Max

open Cert.KernelIdeal Cert.KernelIdeal.Gen Idealize.ShloMosaic

variable {F : FTy → Type} [FloatOps F]

/-- Rows `64 k … 64 k + 63` of a block of 8192 rows and 256 columns. -/
abbrev rows (k : ℕ) : Rect S8192x256 :=
  Rect.unit (s := S8192x256) ![64 * (k % 128), 0] S64x256.size (fun a => by
    have := Nat.mod_lt k (show 0 < 128 by decide)
    match a with
    | ⟨0, _⟩ => show 64 * (k % 128) + 64 ≤ 8192; omega
    | ⟨1, _⟩ => show 0 + 256 ≤ 256; omega)

/-- The values of chunk `k`. -/
def chunk (x : Vec F S8192x256 .f32) (k : ℕ) : Vec F S64x256 .f32 := View.ld x (rows k)

/-- The greatest absolute value of each column of a chunk. -/
def top (y : Vec F S64x256 .f32) : FVec F S1x256 .f32 :=
  shapeCast S1x256 (multiReduction .maximumf [0] S256 (absf y) 0xFF800000#32 reduces_S64x256_S256 (.inl rfl) rfl)
    shapeCasts_S256_S1x256

/-- The row numbers of chunk `k`, each in every column. -/
def rowNo (k : ℕ) : IVec S64x256 32 :=
  addi (iota .tc S64x256 32 [0] iota_S64x256_d0_w32) (broadcast S64x256 (BitVec.ofNat 32 (64 * k)))

/-- The least row number of each column of chunk `k` at which its greatest absolute value stands. -/
def topRow (k : ℕ) (y : Vec F S64x256 .f32) : IVec S1x256 32 :=
  shapeCast S1x256 (multiReductionI .minsi [0] S256
    (select (cmpf .oeq (absf y) (broadcastTo S64x256 (top y) broadcasts_S1x256_S64x256)) (rowNo k) (broadcast S64x256 8192#32))
    2147483647#32 reduces_S64x256_S256 rfl) shapeCasts_S256_S1x256

/-- The greatest absolute value of each column among the first `k` chunks, as the kernel carries it. -/
def best (x : Vec F S8192x256 .f32) (k : ℕ) : FVec F S1x256 .f32 :=
  Nat.rec (broadcast S1x256 (Scalar.ofBits .f32 0xBF800000#32 : F .f32))
    (fun k b => select (cmpf .ogt (top (chunk x k)) b) (top (chunk x k)) b) k

/-- The row at which it first stands, as the kernel carries it. -/
def bestRow (x : Vec F S8192x256 .f32) (k : ℕ) : IVec S1x256 32 :=
  Nat.rec (broadcast S1x256 8192#32)
    (fun k r => select (cmpf .ogt (top (chunk x k)) (best x k)) (topRow k (chunk x k)) r) k

/-- What the kernel stores in chunk `k`. -/
def kept (x : Vec F S8192x256 .f32) (k : ℕ) : Vec F S64x256 .f32 :=
  select (cmpi .eq (rowNo k) (broadcastTo S64x256 (bestRow x 128) broadcasts_S1x256_S64x256)) (chunk x k)
    (broadcast S64x256 (Scalar.ofBits .f32 0x00000000#32 : F .f32))

set_option maxRecDepth 65536 in
/-- A block's result is laid down by 128 stores, `kept x k` into the rows of chunk `k`. -/
theorem out_eq (x : Vec F S8192x256 .f32) :
    out0_1 x = View.canon ((List.range 128).reverse.map fun k => ⟨rows k, kept x k⟩) := rfl

end Cert.Max
-- ==== Proof.FirstMax.lean ====
module

public import Idealize.ShloMosaic.PureOps.Ideal.Laws

/-! The mathematics of a running arg-max: the first row at which a sequence of extended reals is greatest. Nothing here
    mentions a program. -/

@[expose] public section

noncomputable section

namespace Cert.Max

open Idealize.ShloMosaic

/-- Row `p` is the first of the rows below `n` at which `f` is greatest. -/
def FirstMax (f : ℕ → EReal) (n p : ℕ) : Prop := p < n ∧ (∀ r < n, f r ≤ f p) ∧ ∀ r < p, f r < f p

/-- There is at most one such row. -/
theorem FirstMax.unique {f : ℕ → EReal} {n p q : ℕ} (hp : FirstMax f n p) (hq : FirstMax f n q) : p = q := by
  rcases lt_trichotomy p q with h | h | h
  · exact absurd (hp.2.1 q hq.1) (not_le.2 (hq.2.2 p h))
  · exact h
  · exact absurd (hq.2.1 p hp.1) (not_le.2 (hp.2.2 q h))

/-- Among one or more rows there is one. -/
theorem FirstMax.exists (f : ℕ → EReal) {n : ℕ} (hn : 0 < n) : ∃ p, FirstMax f n p := by
  classical
  obtain ⟨q, hq, hmax⟩ := Finset.exists_max_image (Finset.range n) f ⟨0, Finset.mem_range.2 hn⟩
  have hex : ∃ p, p < n ∧ ∀ r < n, f r ≤ f p :=
    ⟨q, Finset.mem_range.1 hq, fun r hr => hmax r (Finset.mem_range.2 hr)⟩
  refine ⟨Nat.find hex, (Nat.find_spec hex).1, (Nat.find_spec hex).2, fun r hr => ?_⟩
  have hrn : r < n := hr.trans (Nat.find_spec hex).1
  refine lt_of_not_ge fun hge => Nat.find_min hex hr ⟨hrn, fun s hs => ((Nat.find_spec hex).2 s hs).trans hge⟩

/-- If the first greatest row of the next `m` rows beats that of the first `n`, it is the first greatest of all `n + m`. -/
theorem FirstMax.step_gt {f : ℕ → EReal} {n m p q : ℕ} (hp : FirstMax f n p) (hq : FirstMax (fun i => f (n + i)) m q)
    (h : f p < f (n + q)) : FirstMax f (n + m) (n + q) := by
  have below : ∀ r < n, f r < f (n + q) := fun r hr => (hp.2.1 r hr).trans_lt h
  refine ⟨by have := hq.1; omega, fun r hr => ?_, fun r hr => ?_⟩
  · rcases lt_or_ge r n with hn | hn
    · exact (below r hn).le
    · have := hq.2.1 (r - n) (by omega)
      simpa only [Nat.add_sub_cancel' hn] using this
  · rcases lt_or_ge r n with hn | hn
    · exact below r hn
    · have := hq.2.2 (r - n) (by omega)
      simpa only [Nat.add_sub_cancel' hn] using this

/-- If it does not, the first greatest of the first `n` rows stays the first greatest of all `n + m`. -/
theorem FirstMax.step_le {f : ℕ → EReal} {n m p q : ℕ} (hp : FirstMax f n p) (hq : FirstMax (fun i => f (n + i)) m q)
    (h : f (n + q) ≤ f p) : FirstMax f (n + m) p := by
  refine ⟨by have := hp.1; omega, fun r hr => ?_, hp.2.2⟩
  rcases lt_or_ge r n with hn | hn
  · exact hp.2.1 r hn
  · have := hq.2.1 (r - n) (by omega)
    simp only [Nat.add_sub_cancel' hn] at this
    exact this.trans h

/-- The maximum of `n` values, started at `-∞`, is the value at the first greatest. -/
theorem fold_max_eq {n : ℕ} {f : ℕ → EReal} {q : ℕ} (hq : FirstMax f n q) :
    (Finset.univ : Finset (Fin n)).fold max (⊥ : EReal) (fun i : Fin n => f i) = f q :=
  le_antisymm (Finset.fold_max_le _ |>.2 ⟨bot_le, fun i _ => hq.2.1 i i.isLt⟩)
    (Finset.le_fold_max _ |>.2 (.inr ⟨⟨q, hq.1⟩, Finset.mem_univ _, le_rfl⟩))

/-- The signed minimum of two words below `2 ^ 31` is the word of the smaller number. -/
theorem minsi_ofNat {a b : ℕ} (ha : a < 2 ^ 31) (hb : b < 2 ^ 31) :
    IntOp.minsi (BitVec.ofNat 32 a) (BitVec.ofNat 32 b) = BitVec.ofNat 32 (min a b) := by
  have e : ∀ n < 2 ^ 31, (BitVec.ofNat 32 n).toInt = n := fun n hn => by
    rw [BitVec.toInt_ofNat']; exact Int.bmod_eq_of_le (by omega) (by omega)
  unfold IntOp.minsi
  rw [BitVec.slt, e a ha, e b hb]
  rcases lt_or_ge a b with h | h
  · rw [min_eq_left h.le, if_pos (by simpa using h)]
  · rw [min_eq_right h, if_neg (by simpa using h)]

/-- A signed minimum over words below `2 ^ 31` is the word of the minimum over the numbers, itself below `2 ^ 31`. -/
theorem fold_minsi {ι : Type} (s : Finset ι) (g : ι → ℕ) (hg : ∀ i, g i < 2 ^ 31) :
    s.fold IntOp.minsi 2147483647#32 (fun i => BitVec.ofNat 32 (g i)) = BitVec.ofNat 32 (s.fold min 2147483647 g)
      ∧ s.fold min 2147483647 g < 2 ^ 31 := by
  classical
  induction s using Finset.induction_on with
  | empty => exact ⟨rfl, by simp⟩
  | insert a s ha ih =>
    rw [Finset.fold_insert ha, Finset.fold_insert ha, ih.1]
    exact ⟨minsi_ofNat (hg a) ih.2, lt_of_le_of_lt (min_le_left _ _) (hg a)⟩

/-- The least of the row numbers `b + i` over the `n` rows `i` at which `f` equals its greatest value, other rows counting
    as `big`, is `b + q` for the first such row `q`. -/
theorem fold_min_eq {n b big : ℕ} {f : ℕ → EReal} {q : ℕ} (hq : FirstMax f n q) (hb : b + n ≤ big) (hbig : big < 2 ^ 31)
    [∀ i : Fin n, Decidable (f i = f q)] :
    (Finset.univ : Finset (Fin n)).fold min 2147483647 (fun i : Fin n => if f i = f q then b + i else big) = b + q := by
  refine le_antisymm (Finset.fold_min_le _ |>.2 (.inr ⟨⟨q, hq.1⟩, Finset.mem_univ _, ?_⟩))
    (Finset.le_fold_min _ |>.2 ⟨by have := hq.1; omega, fun i _ => ?_⟩)
  · simp
  · have := hq.1
    split
    · next h =>
      have : ¬ (i : ℕ) < q := fun hi => absurd h (hq.2.2 i hi).ne
      omega
    · omega

end Cert.Max
-- ==== Proof.Column.lean ====
module

public import proofs.«01_k».proof.Proof.Steps
public import proofs.«01_k».proof.Proof.FirstMax
public import Idealize.ShloMosaic.Lib.Pointwise

/-! What the kernel carries through its loop, at one column, with floats as extended reals. -/

@[expose] public section

noncomputable section

namespace Cert.Max

open Cert.KernelIdeal Cert.KernelIdeal.Gen Idealize.ShloMosaic

/-- The absolute values of column `j` of an array of `n` rows, by row; zero past its rows. -/
def col {n w : ℕ} (x : Vec Ideal ⟨2, ![n, w]⟩ .f32) (j : Fin w) (r : ℕ) : EReal :=
  if h : r < n then FloatOps.absf (F := Ideal) (φ := .f32) (x (ix2 ⟨r, h⟩ j)) else 0

/-- An absolute value is not negative. -/
theorem col_nonneg {n w : ℕ} (x : Vec Ideal ⟨2, ![n, w]⟩ .f32) (j : Fin w) (r : ℕ) : 0 ≤ col x j r := by
  unfold col
  split
  · rw [Ideal.absf_def]
    rcases le_total 0 (x (ix2 ⟨r, ‹_›⟩ j) : EReal) with h | h
    · exact le_max_of_le_left h
    · exact le_max_of_le_right (EReal.neg_nonneg.2 h)
  · exact le_rfl

/-- The pattern of `-∞` denotes it. -/
theorem ofBits_bot : Ideal.ofBits .f32 0xFF800000#32 = ⊥ := by
  simp [Ideal.ofBits, Ideal.ieee]

/-- The pattern of `-1` denotes a negative number. -/
theorem ofBits_neg_one : Ideal.ofBits .f32 0xBF800000#32 < 0 := by
  have e : Ideal.ofBits .f32 0xBF800000#32 = ((-1 : ℝ) : EReal) := by
    simp [Ideal.ofBits, Ideal.ieee, -EReal.coe_mul]; norm_num
  rw [e]; exact_mod_cast (by norm_num : (-1 : ℝ) < 0)

/-- Column `j` of chunk `k` is rows `64 k + i` of the block's column. -/
theorem col_chunk (x : Vec Ideal S8192x256 .f32) {k : ℕ} (hk : k < 128) (j : Fin 256) {i : ℕ} (hi : i < 64) :
    col (chunk x k) j i = col x j (64 * k + i) := by
  have e : chunk x k (ix2 ⟨i, hi⟩ j) = x (ix2 ⟨64 * (k % 128) + i, by omega⟩ j) := by
    pointwise [chunk]
  unfold col
  rw [dif_pos hi, dif_pos (by omega)]
  erw [e]
  simp only [Nat.mod_eq_of_lt hk]

/-- A chunk's greatest absolute value in column `j` is the value at its first greatest row. -/
theorem top_at (y : Vec Ideal S64x256 .f32) (j : Fin 256) {q : ℕ} (hq : FirstMax (col y j) 64 q) :
    top y (ix2 0 j) = col y j q := by
  rw [← fold_max_eq hq]
  pointwise [top]
  rw [ofBits_bot]
  refine Finset.fold_congr fun i _ => ?_
  rw [col, dif_pos i.isLt]

/-- The row number of chunk `k`, row `i`. -/
theorem rowNo_at (k : ℕ) (i : Fin 64) (j : Fin 256) : rowNo k (ix2 i j) = BitVec.ofNat 32 (64 * k + i) := by
  pointwise [rowNo]
  rw [IntOp.addi, ← BitVec.ofNat_add, add_comm]

/-- The row number the kernel finds for chunk `k` in column `j` is that of the chunk's first greatest row. -/
theorem topRow_at {k : ℕ} (hk : k < 128) (y : Vec Ideal S64x256 .f32) (j : Fin 256) {q : ℕ} (hq : FirstMax (col y j) 64 q) :
    topRow k y (ix2 0 j) = BitVec.ofNat 32 (64 * k + q) := by
  classical
  have h : topRow k y (ix2 0 j) = (Finset.univ : Finset (Fin 64)).fold IntOp.minsi 2147483647#32
      (fun i : Fin 64 => BitVec.ofNat 32 (if col y j i = col y j q then 64 * k + i else 8192)) := by
    pointwise [topRow]
    refine Finset.fold_congr fun i _ => ?_
    rw [top_at y j hq, rowNo_at]
    have e : FloatOps.absf (F := Ideal) (φ := .f32) (y (ix2 i j)) = col y j i := by rw [col, dif_pos i.isLt]
    rw [e]
    split <;> rfl
  rw [h, (fold_minsi _ _ fun i => ?_).1, fold_min_eq hq (by omega) (by norm_num)]
  have := i.isLt
  split <;> omega

/-- One step of the loop at column `j`: the greater of the chunk's value and the carried one, … -/
theorem best_succ (x : Vec Ideal S8192x256 .f32) (k : ℕ) (j : Fin 256) :
    best x (k + 1) (ix2 0 j) = if best x k (ix2 0 j) < top (chunk x k) (ix2 0 j) then top (chunk x k) (ix2 0 j) else best x k (ix2 0 j) := by
  show select (cmpf .ogt (top (chunk x k)) (best x k)) (top (chunk x k)) (best x k) (ix2 0 j) = _
  pointwise []

/-- … and the chunk's row where its value is strictly greater, the carried row elsewhere. -/
theorem bestRow_succ (x : Vec Ideal S8192x256 .f32) (k : ℕ) (j : Fin 256) :
    bestRow x (k + 1) (ix2 0 j)
      = if best x k (ix2 0 j) < top (chunk x k) (ix2 0 j) then topRow k (chunk x k) (ix2 0 j) else bestRow x k (ix2 0 j) := by
  show select (cmpf .ogt (top (chunk x k)) (best x k)) (topRow k (chunk x k)) (bestRow x k) (ix2 0 j) = _
  pointwise []

/-- Chunk `k`'s first greatest row, in the block's rows. -/
theorem exists_chunk (x : Vec Ideal S8192x256 .f32) {k : ℕ} (hk : k < 128) (j : Fin 256) :
    ∃ q, FirstMax (col (chunk x k) j) 64 q ∧ FirstMax (fun i => col x j (64 * k + i)) 64 q := by
  obtain ⟨q, hq⟩ := FirstMax.exists (col (chunk x k) j) (n := 64) (by norm_num)
  have e : ∀ i < 64, col (chunk x k) j i = col x j (64 * k + i) := fun i hi => col_chunk x hk j hi
  exact ⟨q, hq, hq.1, fun r hr => by dsimp only; rw [← e r hr, ← e q hq.1]; exact hq.2.1 r hr,
    fun r hr => by dsimp only; rw [← e r (hr.trans hq.1), ← e q hq.1]; exact hq.2.2 r hr⟩

/-- After `k + 1` chunks the kernel carries, in column `j`, the greatest absolute value of the first `64 (k + 1)` rows and
    the number of the first row at which it stands. -/
theorem carried (x : Vec Ideal S8192x256 .f32) (j : Fin 256) (k : ℕ) (hk : k < 128) :
    ∃ p, FirstMax (col x j) (64 * (k + 1)) p ∧ best x (k + 1) (ix2 0 j) = col x j p
      ∧ bestRow x (k + 1) (ix2 0 j) = BitVec.ofNat 32 p := by
  induction k with
  | zero =>
    obtain ⟨q, hc, hx⟩ := exists_chunk x hk j
    have e : top (chunk x 0) (ix2 0 j) = col x j (64 * 0 + q) := by rw [top_at _ j hc, col_chunk x hk j hc.1]
    have hlt : best x 0 (ix2 0 j) < top (chunk x 0) (ix2 0 j) := by
      rw [e]; exact lt_of_lt_of_le ofBits_neg_one (col_nonneg x j _)
    refine ⟨64 * 0 + q, ?_, ?_, ?_⟩
    · simpa using hx
    · rw [best_succ, if_pos hlt, e]
    · rw [bestRow_succ, if_pos hlt, topRow_at hk _ j hc]
  | succ k ih =>
    obtain ⟨p, hp, hb, hr⟩ := ih (by omega)
    obtain ⟨q, hc, hx⟩ := exists_chunk x hk j
    have e : top (chunk x (k + 1)) (ix2 0 j) = col x j (64 * (k + 1) + q) := by rw [top_at _ j hc, col_chunk x hk j hc.1]
    rw [best_succ, bestRow_succ, e, hb, hr, topRow_at hk _ j hc]
    split
    · next h => exact ⟨64 * (k + 1) + q, hp.step_gt hx h, rfl, rfl⟩
    · next h => exact ⟨p, hp.step_le hx (not_lt.1 h), rfl, rfl⟩

/-- After the loop the carried row of column `j` is the first row of the block at which the absolute value is greatest. -/
theorem bestRow_at (x : Vec Ideal S8192x256 .f32) (j : Fin 256) {p : ℕ} (hp : FirstMax (col x j) 8192 p) :
    bestRow x 128 (ix2 0 j) = BitVec.ofNat 32 p := by
  obtain ⟨q, hq, _, h⟩ := carried x j 127 (by norm_num)
  rw [h, hq.unique hp]

end Cert.Max
-- ==== Proof.Block.lean ====
module

public import proofs.«01_k».proof.Proof.Column
public import Idealize.ShloMosaic.Lib.Pipeline.Value

/-! What one block of the kernel computes, and what the whole function is. -/

@[expose] public section

noncomputable section

namespace Cert.Max

open Cert.KernelIdeal Cert.KernelIdeal.Gen Idealize.ShloMosaic

open Classical in
/-- The function both programs are shown to compute: an entry is kept when its row is the first of its column at which the
    absolute value is greatest, and is zero otherwise. -/
def maxKept {n w : ℕ} (x : Vec Ideal ⟨2, ![n, w]⟩ .f32) : Vec Ideal ⟨2, ![n, w]⟩ .f32 := fun y =>
  if FirstMax (col x (y 1)) n (y 0).val then x y else (0 : EReal)

/-- That function at row `r` of column `j`, the column's first greatest row being `p`. -/
theorem maxKept_at {n w : ℕ} (x : Vec Ideal ⟨2, ![n, w]⟩ .f32) (r : Fin n) (j : Fin w) {p : ℕ}
    (hp : FirstMax (col x j) n p) : maxKept x (ix2 r j) = if r.val = p then x (ix2 r j) else (0 : EReal) := by
  have h : FirstMax (col x j) n r.val ↔ r.val = p := ⟨fun h => h.unique hp, fun h => h ▸ hp⟩
  classical
  unfold maxKept
  by_cases e : r.val = p
  · exact (if_pos (h.2 e)).trans (if_pos e).symm
  · exact (if_neg (mt h.1 e)).trans (if_neg e).symm

/-- Entry `(i, j)` of what the kernel stores in chunk `k`. -/
theorem kept_at (x : Vec Ideal S8192x256 .f32) {k : ℕ} (hk : k < 128) (i : Fin 64) (j : Fin 256) {p : ℕ}
    (hp : FirstMax (col x j) 8192 p) :
    kept x k (ix2 i j) = if 64 * k + i.val = p then x (ix2 ⟨64 * (k % 128) + i, by omega⟩ j) else (0 : EReal) := by
  pointwise [kept, chunk]
  have hr := hp.1
  rw [rowNo_at, bestRow_at x j hp, WordCmp.cmpi_eq_eq, WordCmp.select_decide]
  simp only [WordCmp.ofNat_eq_ofNat_iff (w := 32) (a := 64 * k + i.val) (b := p) (by omega) (by omega)]

/-- The block's index at which entry `(i, j)` of chunk `k` stands. -/
theorem rows_emb (k : ℕ) (i : Fin 64) (j : Fin 256) (h : 64 * (k % 128) + i.val < 8192) :
    (rows k).emb (ix2 i j) = ix2 (⟨64 * (k % 128) + i, h⟩ : Fin 8192) j := by
  funext a
  apply Fin.ext
  match a with
  | ⟨0, _⟩ => show 64 * (k % 128) + 1 * i.val = 64 * (k % 128) + i.val; omega
  | ⟨1, _⟩ => show 0 + 1 * j.val = j.val; omega

/-- Chunk `k` of what is stored is chunk `k` of the function. -/
theorem kept_eq (x : Vec Ideal S8192x256 .f32) {k : ℕ} (hk : k < 128) (z : S64x256.Idx) :
    kept x k z = maxKept (n := 8192) (w := 256) x ((rows k).emb z) := by
  obtain ⟨i, j, rfl⟩ : ∃ (i : Fin 64) (j : Fin 256), z = ix2 i j := ⟨z 0, z 1, by
    funext a; match a with | ⟨0, _⟩ => rfl | ⟨1, _⟩ => rfl⟩
  obtain ⟨p, hp⟩ := FirstMax.exists (col (n := 8192) (w := 256) x j) (show 0 < 8192 by decide)
  rw [rows_emb k i j (by omega), maxKept_at (n := 8192) (w := 256) x _ j hp, kept_at x hk i j hp]
  simp only [Nat.mod_eq_of_lt hk]

/-- Every index of a block stands in the chunk of its row. -/
theorem mem_rows (y : S8192x256.Idx) : y ∈ (rows ((y 0).val / 64)).set := by
  have hy : (y 0).val < 8192 := (y 0).isLt
  refine Rect.mem_set_unit.2 fun a => ?_
  match a with
  | ⟨0, _⟩ =>
    show 64 * ((y 0).val / 64 % 128) ≤ (y 0).val ∧ (y 0).val < 64 * ((y 0).val / 64 % 128) + 64
    omega
  | ⟨1, _⟩ =>
    have h1 : (y 1).val < 256 := (y 1).isLt
    show 0 ≤ (y 1).val ∧ (y 1).val < 0 + 256
    omega

/-- A block's result is the function of its values. -/
theorem out_block (x : Vec Ideal S8192x256 .f32) : out0_1 x = maxKept (n := 8192) (w := 256) x := by
  rw [out_eq]
  funext y
  have hy : (y 0).val / 64 < 128 := by have : (y 0).val < 8192 := (y 0).isLt; omega
  refine View.canon_apply_of_pieces (maxKept (n := 8192) (w := 256) x) _ (fun q hq z => ?_) y ?_
  · obtain ⟨k, hk, rfl⟩ := List.mem_map.1 hq
    have hk' : k < 128 := List.mem_range.1 (List.mem_reverse.1 hk)
    have h := kept_eq x hk'
    generalize kept x k = v at h z ⊢
    generalize maxKept (n := 8192) (w := 256) x = G at h ⊢
    exact h z
  · have hm : (y 0).val / 64 ∈ (List.range 128).reverse := List.mem_reverse.2 (List.mem_range.2 hy)
    exact ⟨_, List.mem_map_of_mem hm, mem_rows y⟩

end Cert.Max
-- ==== Proof.Array.lean ====
module

public import proofs.«01_k».proof.Proof.Block

/-! The kernel's result array, assembled from its 16 blocks of 256 columns. -/

@[expose] public section

noncomputable section

namespace Cert.Max

open Cert.KernelIdeal Cert.KernelIdeal.Gen Idealize.ShloMosaic Idealize.ShloMosaic.TcCoe Idealize.SL.Sem

variable (m : (ℓ : Loc nD τ sig) → Buf (Elt Ideal) ℓ)

/-- The kernel's argument array on device `c`. -/
abbrev arg (c : Dev nD) : Vec Ideal S8192x4096 .f32 := m ((c.tc : Thread nD τ).loc main_arg0)

/-- Column `256 t + j`, for a block `t`. -/
abbrev wide (t : Fin cfg0.N) (j : Fin 256) : Fin 4096 := ⟨256 * t.val + j.val, by
  have h : t.val < 16 := t.isLt
  omega⟩

/-- Where each window of a grid point starts: block `t` begins at row 0 and column `256 t`. -/
theorem starts : ∀ t : Fin cfg0.N, (win0_0.rect t).off 0 = 0 ∧ (win0_0.rect t).off 1 = 256 * t.val
    ∧ (win0_1.rect t).off 0 = 0 ∧ (win0_1.rect t).off 1 = 256 * t.val :=
  (by decide +kernel : ∀ t : Fin grid0.N, (win0_0.rect t).off 0 = 0 ∧ (win0_0.rect t).off 1 = 256 * t.val
    ∧ (win0_1.rect t).off 0 = 0 ∧ (win0_1.rect t).off 1 = 256 * t.val)

/-- Entry `(r, j)` of the argument's block `t` is entry `(r, 256 t + j)` of the argument. -/
theorem iblk_at (c : Dev nD) (t : Fin cfg0.N) (r : Fin 8192) (j : Fin 256) :
    iblk m c 0 t (ix2 r j) = arg m c (ix2 r (wide t j)) := by
  obtain ⟨h0, h1, -, -⟩ := starts t
  refine congrArg (arg m c) (show (win0_0.rect t).emb (ix2 r j) = _ from ?_)
  funext a
  apply Fin.ext
  match a with
  | ⟨0, _⟩ => show (win0_0.rect t).off 0 + 1 * r.val = r.val; omega
  | ⟨1, _⟩ => show (win0_0.rect t).off 1 + 1 * j.val = 256 * t.val + j.val; omega

/-- Entry `(r, j)` of a result's block `t` is entry `(r, 256 t + j)` of the result. -/
theorem oblk_at (y : Vec Ideal S8192x4096 .f32) (t : Fin cfg0.N) (r : Fin 8192) (j : Fin 256) :
    ((cfg0.win 1).blk t).view.read (Elt Ideal) y (ix2 r j) = y (ix2 r (wide t j)) := by
  obtain ⟨-, -, h0, h1⟩ := starts t
  refine congrArg y (show (win0_1.rect t).emb (ix2 r j) = _ from ?_)
  funext a
  apply Fin.ext
  match a with
  | ⟨0, _⟩ => show (win0_1.rect t).off 0 + 1 * r.val = r.val; omega
  | ⟨1, _⟩ => show (win0_1.rect t).off 1 + 1 * j.val = 256 * t.val + j.val; omega

/-- A column of a block is the column of the argument it was taken from. -/
theorem col_iblk (c : Dev nD) (t : Fin cfg0.N) (j : Fin 256) :
    col (n := 8192) (w := 256) (iblk m c 0 t) j = col (n := 8192) (w := 4096) (arg m c) (wide t j) := by
  funext r
  unfold col
  split
  · rw [iblk_at]
  · rfl

/-- The kernel's result array is the function of its argument array. -/
theorem result (c : Dev nD) : (dats m 0 c).arrAt 1 cfg0.N = maxKept (n := 8192) (w := 4096) (arg m c) := by
  funext y
  have hy0 : (y 0).val < 8192 := (y 0).isLt
  have hy1 : (y 1).val < 4096 := (y 1).isLt
  obtain ⟨t, j, r, rfl⟩ : ∃ (t : Fin cfg0.N) (j : Fin 256) (r : Fin 8192), y = ix2 r (wide t j) :=
    ⟨⟨(y 1).val / 256, show _ < 16 by omega⟩, ⟨(y 1).val % 256, by omega⟩, y 0, by
      funext a
      apply Fin.ext
      match a with
      | ⟨0, _⟩ => rfl
      | ⟨1, _⟩ => show (y 1).val = 256 * ((y 1).val / 256) + (y 1).val % 256; omega⟩
  obtain ⟨p, hp⟩ := FirstMax.exists (col (n := 8192) (w := 4096) (arg m c) (wide t j)) (show 0 < 8192 by decide)
  have hp' : FirstMax (col (n := 8192) (w := 256) (iblk m c 0 t) j) 8192 p := by rw [col_iblk]; exact hp
  have h := congrFun (Value.blocks1 m c t (flush0_1 t)) (ix2 r j)
  rw [oblk_at, Value.flushed1, out_block] at h
  refine h.trans ((maxKept_at (n := 8192) (w := 256) (iblk m c 0 t) r j hp').trans ?_)
  rw [maxKept_at _ _ _ hp, iblk_at]

end Cert.Max
-- ==== Proof.Reference.lean ====
module

public import proofs.«01_k».proof.Defs
public import proofs.«01_k».proof.Proof.Gen.ReferenceIdeal
public import Idealize.ShloMosaic.Lib.Claim
public import Idealize.ShloMosaic.Lib.Quiescent

/-! What the reference's run leaves in its result array: one composed term of its argument. -/

@[expose] public section

noncomputable section

namespace Cert.Max.Ref

open Idealize.ShloMosaic Idealize.ShloMosaic.StableHlo Idealize.ShloMosaic.TcCoe Idealize.SL.Sem
open Cert.ReferenceIdeal Cert.ReferenceIdeal.Facts₀

variable {F : FTy → Type} [FloatOps F]

/-- The second component of a function's values. -/
def second {α β γ : Type} (f : α → β × γ) : α → γ := fun a => (f a).2

/-- The arg-max of the absolute values down each column. -/
def argRow (w : FVec F S8192x4096 .f32) : IVec S4096 32 :=
  second (Host.argReduce reducer_argmax_f32_i32 (Host.absf w) (iotaInDim S8192x4096 32 0) (constant S_ .f32 0xFF800000#32)
    (constantI S_ 32 0#32) reducesTo_S8192x4096_S4096_d0 h_S_)

/-- An index along an axis of `n`, counted from the end where it is negative. -/
def wrap (n : BitVec 32) (v : IVec S4096 32) : IVec S4096 32 :=
  select (cmpi .slt v (broadcastInDim S4096 ![] bcast_S_S4096 (constantI S_ 32 0#32)))
    (addi v (broadcastInDim S4096 ![] bcast_S_S4096 (constantI S_ 32 n))) v

/-- The (row, column) pairs the reference reads and writes, one for each column. -/
def spots (w : FVec F S8192x4096 .f32) : IVec S4096x2 32 :=
  concatenate S4096x2 1
    [⟨S4096x1, broadcastInDim S4096x1 ![0] bcast_S4096_S4096x1_0 (wrap 8192#32 (argRow w))⟩,
      ⟨S4096x1, broadcastInDim S4096x1 ![0] bcast_S4096_S4096x1_0 (wrap 4096#32 (iotaInDim S4096 32 0))⟩]
    concatenates_S4096x1_S4096x1_S4096x2_d1

/-- The reference's result: the values gathered at the pairs, set into zeros at the pairs. -/
def out (w : FVec F S8192x4096 .f32) : FVec F S8192x4096 .f32 :=
  Host.scatter scatter_S8192x4096_S4096x2_S4096_n_01_01_1 (fun _ b => b)
    (broadcastInDim S8192x4096 ![] bcast_S_S8192x4096 (constant S_ .f32 0x00000000#32)) (spots w)
    (Host.gather gather_S8192x4096_S4096x2_S4096_n_01_n_n_01_1_11 w (spots w))

/-- The reference's operations, in order. -/
def ops : List (HloOp τ sig (Elt F)) :=
  [ unary main_arg0 main_v0 Host.absf,
    TRef.nullary main_call0.v0 (iotaInDim S8192x4096 32 0),
    TRef.nullary main_call0.cst (constant S_ .f32 0xFF800000#32),
    TRef.nullary main_call0.c (constantI S_ 32 0#32),
    TRef.quaternary (.of main_v0) main_call0.v0 main_call0.cst main_call0.c main_call0.v1_0 (fun x y u v j => (Host.argReduce reducer_argmax_f32_i32 x y u v reducesTo_S8192x4096_S4096_d0 h_S_ j).1),
    TRef.quaternary (.of main_v0) main_call0.v0 main_call0.cst main_call0.c main_call0.v1_1 (fun x y u v j => (Host.argReduce reducer_argmax_f32_i32 x y u v reducesTo_S8192x4096_S4096_d0 h_S_ j).2),
    nullary main_v2 (iotaInDim S4096 32 0),
    nullary main_c (constantI S_ 32 0#32),
    unary main_c main_v3 (broadcastInDim S4096 ![] bcast_S_S4096),
    binary main_v1 main_v3 main_v4 (cmpi .slt),
    nullary main_c_0 (constantI S_ 32 8192#32),
    unary main_c_0 main_v5 (broadcastInDim S4096 ![] bcast_S_S4096),
    binary main_v1 main_v5 main_v6 addi,
    ternary main_v4 main_v6 main_v1 main_v7 select,
    nullary main_c_1 (constantI S_ 32 0#32),
    unary main_c_1 main_v8 (broadcastInDim S4096 ![] bcast_S_S4096),
    binary main_v2 main_v8 main_v9 (cmpi .slt),
    nullary main_c_2 (constantI S_ 32 4096#32),
    unary main_c_2 main_v10 (broadcastInDim S4096 ![] bcast_S_S4096),
    binary main_v2 main_v10 main_v11 addi,
    ternary main_v9 main_v11 main_v2 main_v12 select,
    unary main_v7 main_v13 (broadcastInDim S4096x1 ![0] bcast_S4096_S4096x1_0),
    unary main_v12 main_v14 (broadcastInDim S4096x1 ![0] bcast_S4096_S4096x1_0),
    binary main_v13 main_v14 main_v15 (fun a b => concatenate S4096x2 1 [⟨S4096x1, a⟩, ⟨S4096x1, b⟩] concatenates_S4096x1_S4096x1_S4096x2_d1),
    binary main_arg0 main_v15 main_v16 (fun x i => Host.gather gather_S8192x4096_S4096x2_S4096_n_01_n_n_01_1_11 x i),
    nullary main_cst (constant S_ .f32 0x00000000#32),
    unary main_cst main_v17 (broadcastInDim S8192x4096 ![] bcast_S_S8192x4096),
    nullary main_c_3 (constantI S_ 32 0#32),
    unary main_c_3 main_v18 (broadcastInDim S4096 ![] bcast_S_S4096),
    binary main_v1 main_v18 main_v19 (cmpi .slt),
    nullary main_c_4 (constantI S_ 32 8192#32),
    unary main_c_4 main_v20 (broadcastInDim S4096 ![] bcast_S_S4096),
    binary main_v1 main_v20 main_v21 addi,
    ternary main_v19 main_v21 main_v1 main_v22 select,
    nullary main_c_5 (constantI S_ 32 0#32),
    unary main_c_5 main_v23 (broadcastInDim S4096 ![] bcast_S_S4096),
    binary main_v2 main_v23 main_v24 (cmpi .slt),
    nullary main_c_6 (constantI S_ 32 4096#32),
    unary main_c_6 main_v25 (broadcastInDim S4096 ![] bcast_S_S4096),
    binary main_v2 main_v25 main_v26 addi,
    ternary main_v24 main_v26 main_v2 main_v27 select,
    unary main_v22 main_v28 (broadcastInDim S4096x1 ![0] bcast_S4096_S4096x1_0),
    unary main_v27 main_v29 (broadcastInDim S4096x1 ![0] bcast_S4096_S4096x1_0),
    binary main_v28 main_v29 main_v30 (fun a b => concatenate S4096x2 1 [⟨S4096x1, a⟩, ⟨S4096x1, b⟩] concatenates_S4096x1_S4096x1_S4096x2_d1),
    ternary main_v17 main_v30 main_v16 main_v31 (fun x i u => Host.scatter scatter_S8192x4096_S4096x2_S4096_n_01_01_1 (fun _ b => b) x i u) ]

set_option maxRecDepth 4096 in
/-- The reference is that straight line. -/
theorem main_eq (c : Dev nD) : main (F := F) c = seq ops := by
  rfl

/-- Every buffer they name is one of the device's. -/
theorem ops_sub : (ops : List (HloOp τ sig (Elt F))).Forall fun op => op.bufs ⊆ tcRefs τ sig :=
  ⟨unary_bufs_sub .., nullary_bufs_sub .., nullary_bufs_sub .., nullary_bufs_sub .., quaternary_bufs_sub ..,
    quaternary_bufs_sub .., nullary_bufs_sub .., nullary_bufs_sub .., unary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., unary_bufs_sub .., binary_bufs_sub .., binary_bufs_sub ..,
    nullary_bufs_sub .., unary_bufs_sub .., nullary_bufs_sub .., unary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., unary_bufs_sub .., binary_bufs_sub .., ternary_bufs_sub ..⟩

set_option maxRecDepth 65536 in
/-- The straight line leaves the composed term in the result array. -/
theorem out_eq (V : Valuation τ sig (Elt F)) :
    after ops V (main_v31 : DevRef τ sig) = out (V (main_arg0 : DevRef τ sig)) := by
  unfold ops
  after_results
  rfl

/-- … and its argument as it was. -/
theorem arg0_eq (V : Valuation τ sig (Elt F)) :
    after ops V (main_arg0 : DevRef τ sig) = V (main_arg0 : DevRef τ sig) := by
  simp only [ops, after_cons, after_nil]
  rfl

/-- The reference's run: it ends with the composed term of its argument in the result array, the argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = out (m ((c.tc : Thread nD τ).loc main_arg0))
        ∧ r.2.mem ((c.tc : Thread nD τ).loc main_arg0) = m ((c.tc : Thread nD τ).loc main_arg0) :=
  (θ_run defs _ _).mono (fun _ h c => ⟨(h c main_v31).trans (out_eq _), (h c main_arg0).trans (arg0_eq _)⟩)
    (run_seq (by decide) (by decide) defs main (fun _ => ops) main_eq (fun _ => ops_sub) m ρ)

/-- The reference's frame: its argument ends as it was and every semaphore counter reads zero (it has none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.Max.Ref
-- ==== Proof.ArgMax.lean ====
module

public import proofs.«01_k».proof.Proof.Reference
public import proofs.«01_k».proof.Proof.Column
public import Idealize.ShloMosaic.Lib.Pointwise

/-! The reference's arg-max, with floats as extended reals: the fold over a column ends at the first row at which the
    absolute value is greatest. The fold's order plays no part: its body keeps the better of two pairs. -/

@[expose] public section

noncomputable section

namespace Cert.Max.Ref

open Idealize.ShloMosaic Cert.ReferenceIdeal Cert.ReferenceIdeal.Facts₀

/-- A (value, row) pair is at least as good as another: its value is greater, or equal with a row no later. -/
def Ge (a b : EReal × BitVec 32) : Prop := b.1 < a.1 ∨ (b.1 = a.1 ∧ a.2.toInt ≤ b.2.toInt)

/-- A pair is at least as good as itself. -/
theorem Ge.refl (a : EReal × BitVec 32) : Ge a a := .inr ⟨rfl, le_rfl⟩

/-- Being at least as good passes along. -/
theorem Ge.trans {a b c : EReal × BitVec 32} (h : Ge a b) (h' : Ge b c) : Ge a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- The reducer keeps one of its two pairs, one that is at least as good as both. -/
theorem reducer_spec (a b : EReal × BitVec 32) :
    (reducer_argmax_f32_i32 (F := Ideal) a b = a ∨ reducer_argmax_f32_i32 (F := Ideal) a b = b)
      ∧ Ge (reducer_argmax_f32_i32 (F := Ideal) a b) a ∧ Ge (reducer_argmax_f32_i32 (F := Ideal) a b) b := by
  obtain ⟨x, i⟩ := a
  obtain ⟨y, j⟩ := b
  simp only [reducer_argmax_f32_i32, Ideal.cmpf_def, Ideal.cmp, WordCmp.cmpi_slt_eq, WordCmp.ori_ofBool, WordCmp.andi_ofBool, Ge]
  rcases lt_trichotomy x y with h | rfl | h
  · simp [h, h.not_gt, h.ne, h.ne', Scalar.select]
  · by_cases hi : i.toInt < j.toInt
    · simp [hi, hi.le, Scalar.select]
    · simp [hi, not_lt.1 hi, Scalar.select]
  · simp [h, h.not_gt, h.ne, h.ne', Scalar.select]

/-- A left fold of the reducer ends at one of the pairs it met (the initial one among them), at least as good as all. -/
theorem foldl_reducer (l : List (EReal × BitVec 32)) (a : EReal × BitVec 32) :
    l.foldl (reducer_argmax_f32_i32 (F := Ideal)) a ∈ a :: l
      ∧ ∀ b ∈ a :: l, Ge (l.foldl (reducer_argmax_f32_i32 (F := Ideal)) a) b := by
  induction l generalizing a with
  | nil => exact ⟨by simp, fun b hb => by simp at hb; subst hb; exact Ge.refl _⟩
  | cons e l ih =>
    obtain ⟨hm, hg⟩ := ih (reducer_argmax_f32_i32 (F := Ideal) a e)
    obtain ⟨hs, ha, he⟩ := reducer_spec a e
    rw [List.foldl_cons]
    have hr := hg _ List.mem_cons_self
    refine ⟨?_, fun b hb => ?_⟩
    · rcases List.mem_cons.1 hm with h | h
      · rcases hs with hs | hs <;> rw [h, hs] <;> simp
      · exact List.mem_cons_of_mem _ (List.mem_cons_of_mem _ h)
    · rcases List.mem_cons.1 hb with rfl | hb
      · exact hr.trans ha
      · rcases List.mem_cons.1 hb with rfl | hb
        · exact hr.trans he
        · exact hg b (List.mem_cons_of_mem _ hb)

/-- The one axis kept, as the library's other statement of the same fact. -/
theorem reduces : S8192x4096.Reduces [0] S4096 := by decide

/-- The pairs folded for column `j` are the values of its rows with their row numbers. -/
theorem mem_fiber (x : FVec Ideal S8192x4096 .f32) (j : Fin 4096) (p : EReal × BitVec 32) :
    p ∈ Host.argReduceFiber x (iotaInDim S8192x4096 32 0) reducesTo_S8192x4096_S4096_d0 (ix1 j)
      ↔ ∃ r : Fin 8192, p = (x (ix2 r j), BitVec.ofNat 32 r) := by
  have hd := Shape.ReducesTo.drop_eq_drop (reducesTo_S8192x4096_S4096_d0) reduces
  have hl : ∀ r : Fin 8192, reduces.lift (ix1 j) r = ix2 r j := fun r => by
    funext a; match a with | ⟨0, _⟩ => rfl | ⟨1, _⟩ => rfl
  simp only [Host.argReduceFiber, List.mem_map, List.mem_filter, List.mem_finRange, true_and, decide_eq_true_eq, hd]
  constructor
  · rintro ⟨n, hn, rfl⟩
    refine ⟨S8192x4096.rowMajor.symm n 0, ?_⟩
    have h := reduces.lift_drop (S8192x4096.rowMajor.symm n)
    rw [hn] at h
    rw [← h.symm.trans (hl _)]
    rfl
  · rintro ⟨r, rfl⟩
    refine ⟨S8192x4096.rowMajor (ix2 r j), ?_, ?_⟩
    · rw [Equiv.symm_apply_apply, ← hl r]; exact reduces.drop_lift _ _
    · rw [Equiv.symm_apply_apply]; rfl

/-- An entry of the reference's absolute value, as the column's. -/
theorem absf_at (w : FVec Ideal S8192x4096 .f32) (j : Fin 4096) (r : Fin 8192) :
    Host.absf w (ix2 r j) = col (n := 8192) (w := 4096) w j r := by
  rw [col, dif_pos r.isLt]
  rfl

/-- The pair the fold starts from: the least value, at row 0. -/
theorem init_eq : (constant (F := Ideal) S_ .f32 0xFF800000#32 (Shape.Idx.first h_S_), constantI S_ 32 0#32 (Shape.Idx.first h_S_))
    = ((⊥ : EReal), 0#32) := by
  rw [← ofBits_bot]
  rfl

/-- The reference's row for column `j`, as one fold of the column's pairs. -/
theorem argRow_fold (w : FVec Ideal S8192x4096 .f32) (j : Fin 4096) : argRow w (ix1 j) =
    ((Host.argReduceFiber (Host.absf w) (iotaInDim S8192x4096 32 0) reducesTo_S8192x4096_S4096_d0 (ix1 j)).foldl
      (reducer_argmax_f32_i32 (F := Ideal)) ((⊥ : EReal), 0#32)).2 := by
  rw [argRow, Ideal.argReduce_eq_reduce2, second, Host.reduce2_eq_foldl_fiber, init_eq]

/-- The reference's row for column `j` is the first at which the column's absolute value is greatest. -/
theorem argRow_at (w : FVec Ideal S8192x4096 .f32) (j : Fin 4096) {p : ℕ} (hp : FirstMax (col w j) 8192 p) :
    argRow w (ix1 j) = BitVec.ofNat 32 p := by
  have hint : ∀ r, r < 8192 → (BitVec.ofNat 32 r).toInt = (r : ℤ) := fun r hr =>
    WordCmp.toInt_ofNat_of_lt (by omega)
  obtain ⟨hm, hg⟩ := foldl_reducer
    (Host.argReduceFiber (Host.absf w) (iotaInDim S8192x4096 32 0) reducesTo_S8192x4096_S4096_d0 (ix1 j)) (⊥, 0#32)
  rw [argRow_fold]
  generalize List.foldl _ _ _ = e at hm hg ⊢
  have hbest := hg _ (List.mem_cons_of_mem _ ((mem_fiber (Host.absf w) j _).2 ⟨⟨p, hp.1⟩, rfl⟩))
  rw [absf_at] at hbest
  simp only [Ge] at hbest
  rcases List.mem_cons.1 hm with rfl | hm
  · have h0 := col_nonneg w j p
    rcases hbest with h | ⟨h, _⟩
    · exact absurd h not_lt_bot
    · rw [h] at h0
      exact absurd h0 (by simp)
  · obtain ⟨r, rfl⟩ := (mem_fiber (Host.absf w) j _).1 hm
    rw [absf_at] at hbest
    have hle := hp.2.1 r r.isLt
    rcases hbest with h | ⟨h, hr⟩
    · exact absurd h hle.not_gt
    · rcases lt_trichotomy (r : ℕ) p with hlt | heq | hgt
      · exact absurd h (hp.2.2 r hlt).ne'
      · exact congrArg (BitVec.ofNat 32) heq
      · simp only [hint _ r.isLt, hint _ hp.1] at hr
        omega

end Cert.Max.Ref
-- ==== Proof.RefValue.lean ====
module

public import proofs.«01_k».proof.Proof.ArgMax
public import proofs.«01_k».proof.Proof.Block
public import Idealize.ShloMosaic.Lib.Routing.OpsSet
public import Idealize.ShloMosaic.Lib.Routing.OpsPair

/-! What the reference computes: the position table, the gather and the scatter, and the result as a function of the
    argument. -/

@[expose] public section

noncomputable section

namespace Cert.Max.Ref

open Idealize.ShloMosaic Cert.ReferenceIdeal Cert.ReferenceIdeal.Facts₀ Cert.Max

/-- Row `c` of the position table is (`row word`, `c`), the first word being the arg-max's. -/
theorem spots_at (w : FVec Ideal S8192x4096 .f32) (c : Fin 4096) {p : ℕ} (hp : FirstMax (col w c) 8192 p) :
    spots w (ix2 c 0) = BitVec.ofNat 32 p ∧ spots w (ix2 c 1) = BitVec.ofNat 32 c := by
  have hr := hp.1
  constructor
  · pointwise [spots, wrap]
    rw [argRow_at w c hp]
    exact Routing.wrap_of_lt _ _ (by rw [WordCmp.toNat_ofNat_of_lt] <;> omega)
  · pointwise [spots, wrap]
    exact Routing.wrap_of_lt _ _ (by rw [WordCmp.toNat_ofNat_of_lt] <;> omega)

/-- Where the table's word for axis `a` of update `c` stands, in the scatter. -/
theorem scatter_word (c : Fin 4096) (a : Fin 2) (h) :
    scatter_S8192x4096_S4096x2_S4096_n_01_01_1.siIdx (ix1 c) ⟨List.idxOf a [0, 1], h⟩ = ix2 c a := by
  fin_cases a <;> (funext b; match b with | ⟨0, _⟩ => rfl | ⟨1, _⟩ => rfl)

/-- Where the table's word for axis `a` of result `c` stands, in the gather. -/
theorem gather_word (c : Fin 4096) (a : Fin 2) (h) :
    gather_S8192x4096_S4096x2_S4096_n_01_n_n_01_1_11.siIdx (ix1 c) ⟨List.idxOf a [0, 1], h⟩ = ix2 c a := by
  fin_cases a <;> (funext b; match b with | ⟨0, _⟩ => rfl | ⟨1, _⟩ => rfl)

/-- Update `c` lands at the entry its two words name. -/
theorem lands (idx : IVec S4096x2 32) (c : Fin 4096) (r : Fin 8192) (j : Fin 4096) :
    scatter_S8192x4096_S4096x2_S4096_n_01_01_1.resultIdx? (ix1 c) idx = some (ix2 r j)
      ↔ (idx (ix2 c 0)).toInt = (r.val : ℤ) ∧ (idx (ix2 c 1)).toInt = (j.val : ℤ) := by
  have hs : ∀ a : Fin 2, scatter_S8192x4096_S4096x2_S4096_n_01_01_1.start (ix1 c) idx a = (idx (ix2 c a)).toInt := fun a => by
    unfold ScatterDims.start
    rw [dif_pos (by fin_cases a <;> decide)]
    exact congrArg (fun i => (idx i).toInt) (scatter_word c a _)
  have hw : ∀ a : Fin 2, scatter_S8192x4096_S4096x2_S4096_n_01_01_1.window (ix1 c) a = 0 := fun a => by
    unfold ScatterDims.window
    exact dif_neg (by fin_cases a <;> decide)
  refine (Routing.resultIdx?_ix2 (R := 8192) (C := 4096) _ _ idx r j).trans ?_
  rw [hs, hs, hw, hw]
  simp

/-- Entry `c` of the gather is the entry its two words name, when they name one. -/
theorem gathered (w : FVec Ideal S8192x4096 .f32) (idx : IVec S4096x2 32) (c : Fin 4096) (r : Fin 8192) (j : Fin 4096)
    (hr : (idx (ix2 c 0)).toInt = (r.val : ℤ)) (hj : (idx (ix2 c 1)).toInt = (j.val : ℤ)) :
    Host.gather gather_S8192x4096_S4096x2_S4096_n_01_n_n_01_1_11 w idx (ix1 c) = w (ix2 r j) := by
  have hs : ∀ a : Fin 2, gather_S8192x4096_S4096x2_S4096_n_01_n_n_01_1_11.start (ix1 c) idx a
      = min (idx (ix2 c a)).toInt.toNat (S8192x4096.size a - 1) := fun a => by
    unfold GatherDims.start
    rw [dif_pos (by fin_cases a <;> decide)]
    have h := gather_word c a
    fin_cases a <;> exact congrArg (fun i => min (idx i).toInt.toNat _) (h _)
  show w (gather_S8192x4096_S4096x2_S4096_n_01_n_n_01_1_11.operandIdx (ix1 c) idx) = _
  refine congrArg w ?_
  have hz : ∀ a : Fin 2, gather_S8192x4096_S4096x2_S4096_n_01_n_n_01_1_11.batchCoord (ix1 c) a = 0
      ∧ gather_S8192x4096_S4096x2_S4096_n_01_n_n_01_1_11.offCoord (ix1 c) a = 0 := fun a =>
    ⟨GatherDims.batchCoord_eq_zero _ _ _ (by fin_cases a <;> decide), GatherDims.offCoord_eq_zero _ _ _ (by fin_cases a <;> decide)⟩
  funext a
  apply Fin.ext
  show gather_S8192x4096_S4096x2_S4096_n_01_n_n_01_1_11.start (ix1 c) idx a
    + gather_S8192x4096_S4096x2_S4096_n_01_n_n_01_1_11.batchCoord (ix1 c) a
    + gather_S8192x4096_S4096x2_S4096_n_01_n_n_01_1_11.offCoord (ix1 c) a = _
  rw [hs, (hz a).1, (hz a).2]
  match a with
  | ⟨0, _⟩ =>
    show min (idx (ix2 c 0)).toInt.toNat (8192 - 1) + 0 + 0 = r.val
    rw [hr]; omega
  | ⟨1, _⟩ =>
    show min (idx (ix2 c 1)).toInt.toNat (4096 - 1) + 0 + 0 = j.val
    rw [hj]; omega

/-- The reference's result is the function of its argument. -/
theorem result (w : FVec Ideal S8192x4096 .f32) : out w = maxKept (n := 8192) (w := 4096) w := by
  have hint : ∀ r, r < 8192 → (BitVec.ofNat 32 r).toInt = (r : ℤ) := fun r hr =>
    WordCmp.toInt_ofNat_of_lt (by omega)
  have hat : ∀ (c : Fin 4096) {p : ℕ}, FirstMax (col w c) 8192 p →
      (spots w (ix2 c 0)).toInt = (p : ℤ) ∧ (spots w (ix2 c 1)).toInt = (c.val : ℤ) := fun c p hp => by
    obtain ⟨h0, h1⟩ := spots_at w c hp
    have := hp.1
    exact ⟨by rw [h0, hint _ hp.1], by rw [h1, hint _ (by omega)]⟩
  funext y
  obtain ⟨r, j, rfl⟩ : ∃ (r : Fin 8192) (j : Fin 4096), y = ix2 r j := ⟨y 0, y 1, by
    funext a; match a with | ⟨0, _⟩ => rfl | ⟨1, _⟩ => rfl⟩
  obtain ⟨p, hp⟩ := FirstMax.exists (col (n := 8192) (w := 4096) w j) (show 0 < 8192 by decide)
  obtain ⟨h0, h1⟩ := hat j hp
  have hcol : ∀ (c : Fin 4096) (i : Fin 8192), scatter_S8192x4096_S4096x2_S4096_n_01_01_1.resultIdx? (ix1 c) (spots w)
      = some (ix2 i j) → c = j := fun c i h => by
    obtain ⟨q, hq⟩ := FirstMax.exists (col (n := 8192) (w := 4096) w c) (show 0 < 8192 by decide)
    have := ((lands _ _ _ _).1 h).2
    rw [(hat c hq).2] at this
    exact Fin.ext (by exact_mod_cast this)
  have hk : ∀ k : S4096.Idx, k = ix1 (k 0) := fun k => by funext a; match a with | ⟨0, _⟩ => rfl
  rw [maxKept_at (n := 8192) (w := 4096) w r j hp]
  unfold out
  split
  · next e =>
    refine Routing.scatter_set_hit _ _ _ _ _ _ (fun k h => ?_) (ix1 j) ((lands _ _ _ _).2 ⟨by rw [h0, e], h1⟩)
    rw [hk k] at h ⊢
    rw [hcol _ _ h]
    exact gathered w _ j r j (by rw [h0, e]) h1
  · next e =>
    rw [Routing.scatter_set_miss _ _ _ _ _ fun k h => ?_]
    · exact Ideal.ofBits_zero_f32
    · rw [hk k] at h
      have hc := hcol _ _ h
      rw [hc] at h
      have := ((lands _ _ _ _).1 h).1
      rw [h0] at this
      exact e (by exact_mod_cast this.symm)

end Cert.Max.Ref
-- ==== Proof.Equation.lean ====
module

public import proofs.«01_k».proof.Proof.Array
public import proofs.«01_k».proof.Proof.RefValue

/-! The equation: both programs end holding one function of the argument. -/

@[expose] public section

noncomputable section

namespace Cert.Max

open Idealize.ShloMosaic Idealize.ShloMosaic.TcCoe Idealize.SL.Sem

/-- The kernel, run from any memory, ends with its result array at `maxKept` of its argument, the argument as it was. -/
theorem kernel_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal))) ⟨m, fun _ => 0, ρ⟩
      fun r => ∀ c : Dev KernelIdeal.nD,
        r.2.mem ((c.tc : Thread KernelIdeal.nD KernelIdeal.τ).loc KernelIdeal.main_v0)
          = maxKept (n := 8192) (w := 4096) (arg m c)
        ∧ r.2.mem ((c.tc : Thread KernelIdeal.nD KernelIdeal.τ).loc KernelIdeal.main_arg0)
          = m ((c.tc : Thread KernelIdeal.nD KernelIdeal.τ).loc KernelIdeal.main_arg0) :=
  (θ_run _ _ _).mono (fun _ h c => ⟨(h c).1.trans (result m c), (h c).2⟩) (KernelIdeal.Value.run_blocks m ρ)

/-- The reference, run from a memory whose argument is the kernel's, ends with its result at `maxKept` of the kernel's
    argument, its own argument as it was. -/
theorem reference_run (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (ρ : Dev ReferenceIdeal.nD → PrngReg)
    (h : ∀ c : Dev KernelIdeal.nD, m' ((c.tc : Thread ReferenceIdeal.nD ReferenceIdeal.τ).loc ReferenceIdeal.main_arg0)
      = m ((c.tc : Thread KernelIdeal.nD KernelIdeal.τ).loc KernelIdeal.main_arg0)) :
    θ_run (ReferenceIdeal.defs (F := Ideal)) (onTc (τ := ReferenceIdeal.τ) (ReferenceIdeal.main (F := Ideal)))
      ⟨m', fun _ => 0, ρ⟩ fun r => ∀ c : Dev ReferenceIdeal.nD,
        r.2.mem ((c.tc : Thread ReferenceIdeal.nD ReferenceIdeal.τ).loc ReferenceIdeal.main_v31)
          = maxKept (n := 8192) (w := 4096) (arg m c)
        ∧ r.2.mem ((c.tc : Thread ReferenceIdeal.nD ReferenceIdeal.τ).loc ReferenceIdeal.main_arg0)
          = m' ((c.tc : Thread ReferenceIdeal.nD ReferenceIdeal.τ).loc ReferenceIdeal.main_arg0) :=
  (θ_run _ _ _).mono (fun _ hr c => ⟨(hr c).1.trans ((Ref.result _).trans (congrArg _ (h c))), (hr c).2⟩) (Ref.run m' ρ)

end Cert.Max
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

/-- The kernel, over words, returns with its argument as it was and every semaphore counter at zero; so do the kernel and
    the reference over extended reals; the first two are one program; and the last two end with the same result. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.Max.Ref.frame m ρ,
    trivial,
    fun m ρ m' ρ' _ h => ⟨fun c => Cert.Max.maxKept (n := 8192) (w := 4096) (Cert.Max.arg m c),
      Cert.Max.kernel_run m ρ, Cert.Max.reference_run m m' ρ' h⟩⟩

end Cert.Proof

end
